-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "half_inv_log2" .f32 0x3F38AA3B#32 (((2 * (Real.log 2))⁻¹ : ℝ) : EReal)
  ∧ IdealRules.named_const.Statement Cert.KernelIdeal.κ "neg_inv_log2" .f32 0xBFB8AA3B#32 ((-((Real.log 2)⁻¹) : ℝ) : EReal)
  ∧ IdealRules.named_const.Statement Cert.KernelIdeal.κ "log_norm" .f32 0x42ECA272#32 ((64 * (Real.log ((2 * Real.pi) * (Real.sqrt (Real.sqrt (Real.sqrt (Real.sqrt (Real.sqrt (Real.sqrt 2)))))))) : ℝ) : EReal)

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S16384x128 : Shape := ⟨2, ![16384, 128]⟩
abbrev S256x128 : Shape := ⟨2, ![256, 128]⟩
abbrev S256 : Shape := ⟨1, ![256]⟩
abbrev S_ : Shape := ⟨0, ![]⟩

class Facts : Prop where
  bcast_S_S16384x128 : S_.BroadcastsInDim S16384x128 (![] : Fin 0 → Fin S16384x128.rank)
  bcast_S_S256x128 : S_.BroadcastsInDim S256x128 (![] : Fin 0 → Fin S256x128.rank)
  bcast_S_S256 : S_.BroadcastsInDim S256 (![] : Fin 0 → Fin S256.rank)

variable [Facts]

def fn {F : FTy → Type} [FloatOps F] (main_arg0 : FVec F S16384x128 .f32) (main_arg1 : FVec F S256x128 .f32) (main_arg2 : FVec F S256 .f32) (main_arg3 : FVec F S16384x128 .f32) : IVec S16384x128 1 × IVec S256x128 1 × IVec S256 1 × IVec S16384x128 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_cst_1 : FVec F S_ .f32 := constant S_ .f32 0x00000000#32
  let main_v6 : FVec F S256 .f32 := broadcastInDim S256 ![] bcast_S_S256 main_cst_1
  let main_v7 : IVec S256 1 := cmpf .oeq main_arg2 main_v6
  let main_v8 : FVec F S16384x128 .f32 := Host.absf main_arg3
  let main_cst_2 : FVec F S_ .f32 := constant S_ .f32 0x7F800000#32
  let main_v9 : FVec F S16384x128 .f32 := broadcastInDim S16384x128 ![] bcast_S_S16384x128 main_cst_2
  let main_v10 : IVec S16384x128 1 := cmpf .olt main_v8 main_v9
  (main_v2, main_v5, main_v7, main_v10)
-- ==== Kernel.lean ====
abbrev S16384x128 : Shape := ⟨2, ![16384, 128]⟩
abbrev S256x128 : Shape := ⟨2, ![256, 128]⟩
abbrev S256 : Shape := ⟨1, ![256]⟩
abbrev S128x128 : Shape := ⟨2, ![128, 128]⟩
abbrev S16384x1 : Shape := ⟨2, ![16384, 1]⟩
abbrev S2048x128 : Shape := ⟨2, ![2048, 128]⟩
abbrev S2048x1 : Shape := ⟨2, ![2048, 1]⟩
abbrev S2048 : Shape := ⟨1, ![2048]⟩

abbrev nBuf : Space → Nat
  | .hbm => 11
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S256x128, .f32⟩
  | .hbm, ⟨2, _⟩ => ⟨S256, .f32⟩
  | .hbm, ⟨3, _⟩ => ⟨S16384x128, .f32⟩
  | .hbm, ⟨4, _⟩ => ⟨S128x128, .f32⟩
  | .hbm, ⟨5, _⟩ => ⟨S128x128, .f32⟩
  | .hbm, ⟨6, _⟩ => ⟨S128x128, .bf16⟩
  | .hbm, ⟨7, _⟩ => ⟨S128x128, .f32⟩
  | .hbm, ⟨8, _⟩ => ⟨S128x128, .f32⟩
  | .hbm, ⟨9, _⟩ => ⟨S16384x128, .f32⟩
  | .hbm, ⟨10, _⟩ => ⟨S16384x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .bf16⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "half_inv_log2" => some (((2 * (Real.log 2))⁻¹ : ℝ) : EReal)
  | "log_norm" => some ((64 * (Real.log ((2 * Real.pi) * (Real.sqrt (Real.sqrt (Real.sqrt (Real.sqrt (Real.sqrt (Real.sqrt 2)))))))) : ℝ) : EReal)
  | "neg_inv_log2" => some ((-((Real.log 2)⁻¹) : ℝ) : EReal)
  | _ => none
-- ==== ReferenceIdeal.lean ====
abbrev S16384x128 : Shape := ⟨2, ![16384, 128]⟩
abbrev S256x128 : Shape := ⟨2, ![256, 128]⟩
abbrev S256 : Shape := ⟨1, ![256]⟩
abbrev S128x256 : Shape := ⟨2, ![128, 256]⟩
abbrev S16384x256 : Shape := ⟨2, ![16384, 256]⟩
abbrev S1x256 : Shape := ⟨2, ![1, 256]⟩
abbrev S16384x2x128 : Shape := ⟨3, ![16384, 2, 128]⟩
abbrev S2x16384x128 : Shape := ⟨3, ![2, 16384, 128]⟩
abbrev S1x16384x128 : Shape := ⟨3, ![1, 16384, 128]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 142
  | .vmem => 0
  | .smem => 0
  | _ => 0

abbrev hbmTy0_0 (i : Nat) : BufTy := match i % 128 with
  | 0 => ⟨S16384x128, .f32⟩
  | 1 => ⟨S256x128, .f32⟩
  | 2 => ⟨S256, .f32⟩
  | 3 => ⟨S16384x128, .f32⟩
  | 4 => ⟨S128x256, .f32⟩
  | 5 => ⟨S16384x256, .f32⟩
  | 6 => ⟨S1x256, .f32⟩
  | 7 => ⟨S16384x256, .f32⟩
  | 8 => ⟨S16384x256, .f32⟩
  | 9 => ⟨S16384x2x128, .f32⟩
  | 10 => ⟨S2x16384x128, .f32⟩
  | 11 => ⟨S1x16384x128, .f32⟩
  | 12 => ⟨S16384x128, .f32⟩
  | 13 => ⟨S1x16384x128, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S16384x128, .f32⟩
  | 28 => ⟨S16384x128, .f32⟩
  | 29 => ⟨S_, .f32⟩
  | 30 => ⟨S16384, .f32⟩
  | 31 => ⟨S16384x1, .f32⟩
  | 32 => ⟨S16384x128, .f32⟩
  | 33 => ⟨S16384x128, .f32⟩
  | 34 => ⟨S16384x128, .f32⟩
  | 35 => ⟨S16384x128, .f32⟩
  | 36 => ⟨S16384x128, .i32⟩
  | 37 => ⟨S_, .f32⟩
  | 38 => ⟨S_, .i32⟩
  | 39 => ⟨S16384, .f32⟩
  | 40 => ⟨S16384, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x1, .i32⟩
  | 58 => ⟨S16384x2, .i32⟩
  | 59 => ⟨S16384, .f32⟩
  | 60 => ⟨S16384x1, .f32⟩
  | 61 => ⟨S16384x1, .f32⟩
  | 62 => ⟨S16384x128, .f32⟩
  | 63 => ⟨S16384x128, .f32⟩
  | 64 => ⟨S_, .f32⟩
  | 65 => ⟨S16384x128, .f32⟩
  | 66 => ⟨S16384x128, .f32⟩
  | 67 => ⟨S16384x128, .f32⟩
  | 68 => ⟨S16384x128, .f32⟩
  | 69 => ⟨S16384x128, .i1⟩
  | 70 => ⟨S16384x128, .f32⟩
  | 71 => ⟨S16384x128, .f32⟩
  | 72 => ⟨S16384x128, .f32⟩
  | 73 => ⟨S16384x128, .f32⟩
  | 74 => ⟨S16384x128, .f32⟩
  | 75 => ⟨S16384x128, .f32⟩
  | 76 => ⟨S16384x128, .f32⟩
  | 77 => ⟨S16384x128, .f32⟩
  | 78 => ⟨S16384x128, .f32⟩
  | 79 => ⟨S16384x128, .f32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x1, .i32⟩
  | 96 => ⟨S16384x2, .i32⟩
  | 97 => ⟨S16384x128, .f32⟩
  | 98 => ⟨S16384x1, .f32⟩
  | 99 => ⟨S16384x128, .f32⟩
  | 100 => ⟨S16384x128, .f32⟩
  | 101 => ⟨S16384x128, .f32⟩
  | 102 => ⟨S_, .f32⟩
  | 103 => ⟨S16384x128, .f32⟩
  | 104 => ⟨S16384x128, .f32⟩
  | 105 => ⟨S16384x128, .f32⟩
  | 106 => ⟨S16384x128, .f32⟩
  | 107 => ⟨S16384x128, .i1⟩
  | 108 => ⟨S16384x128, .f32⟩
  | 109 => ⟨S16384x128, .f32⟩
  | 110 => ⟨S16384x128, .f32⟩
  | 111 => ⟨S16384x128, .f32⟩
  | 112 => ⟨S16384x128, .f32⟩
  | 113 => ⟨S16384x128, .f32⟩
  | 114 => ⟨S16384x128, .f32⟩
  | 115 => ⟨S16384x128, .f32⟩
  | 116 => ⟨S16384x128, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S_, .i32⟩
  | 125 => ⟨S16384, .i32⟩
  | 126 => ⟨S16384, .i1⟩
  | 127 => ⟨S_, .i32⟩
  | _ => ⟨S16384x128, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x1, .i32⟩
  | 5 => ⟨S16384x2, .i32⟩
  | 6 => ⟨S_, .f32⟩
  | 7 => ⟨S16384, .f32⟩
  | 8 => ⟨S16384x128, .f32⟩
  | 9 => ⟨S_, .f32⟩
  | 10 => ⟨S16384, .f32⟩
  | 11 => ⟨S16384x1, .f32⟩
  | 12 => ⟨S16384x1, .f32⟩
  | 13 => ⟨S16384x1, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_7 : Ref sig .tc := ⟨.hbm, 80, rfl⟩
abbrev main_v50 : Ref sig .tc := ⟨.hbm, 81, rfl⟩
abbrev main_v51 : Ref sig .tc := ⟨.hbm, 82, rfl⟩
abbrev main_c_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_v0 : Ref sig .tc := ⟨.hbm, 101, rfl⟩
abbrev main_call2_call0_cst : Ref sig .tc := ⟨.hbm, 102, rfl⟩
abbrev main_call2_call0_v0 : Ref sig .tc := ⟨.hbm, 103, rfl⟩
abbrev main_call2_call0_v1 : Ref sig .tc := ⟨.hbm, 104, rfl⟩
abbrev main_call2_call0_v2 : Ref sig .tc := ⟨.hbm, 105, rfl⟩
abbrev main_call2_call0_v3 : Ref sig .tc := ⟨.hbm, 106, rfl⟩
abbrev main_call2_call0_v4 : Ref sig .tc := ⟨.hbm, 107, rfl⟩
abbrev main_call2_call0_v5 : Ref sig .tc := ⟨.hbm, 108, rfl⟩
abbrev main_call2_call0_v6 : Ref sig .tc := ⟨.hbm, 109, rfl⟩
abbrev main_call2_call0_v7 : Ref sig .tc := ⟨.hbm, 110, rfl⟩
abbrev main_call2_call0_v8 : Ref sig .tc := ⟨.hbm, 111, rfl⟩
abbrev main_call2_call0_v9 : Ref sig .tc := ⟨.hbm, 112, rfl⟩
abbrev main_call2_call0_v10 : Ref sig .tc := ⟨.hbm, 113, rfl⟩
abbrev main_call2_call0_v11 : Ref sig .tc := ⟨.hbm, 114, rfl⟩
abbrev main_call2_v1 : Ref sig .tc := ⟨.hbm, 115, rfl⟩
abbrev main_v67 : Ref sig .tc := ⟨.hbm, 116, rfl⟩
abbrev main_c_11 : Ref sig .tc := ⟨.hbm, 117, rfl⟩
abbrev main_v68 : Ref sig .tc := ⟨.hbm, 118, rfl⟩
abbrev main_v69 : Ref sig .tc := ⟨.hbm, 119, rfl⟩
abbrev main_c_12 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_13 : Ref sig .tc := ⟨.hbm, 124, rfl⟩
abbrev main_v73 : Ref sig .tc := ⟨.hbm, 125, rfl⟩
abbrev main_v74 : Ref sig .tc := ⟨.hbm, 126, rfl⟩
abbrev main_c_14 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_15 : Ref sig .tc := ⟨.hbm, 134, rfl⟩
abbrev main_v81 : Ref sig .tc := ⟨.hbm, 135, rfl⟩
abbrev main_v82 : Ref sig .tc := ⟨.hbm, 136, rfl⟩
abbrev main_cst_16 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩

abbrev nD : Nat := 1
abbrev τ : Topo := Topo.v7x

variable {F : FTy → Type} [FloatOps F]
-- ==== Proof.Maths.lean ====
/- The mathematics of the certificate, free of both programs: the first greatest entry of a row, the softplus and its
   reflection, powers of two as exponentials, and the float constants of the two programs as extended reals. -/
module

public import Idealize.ShloMosaic.PureOps.Ideal
public import Mathlib.Analysis.SpecialFunctions.Pow.Real
public import Mathlib.Analysis.SpecialFunctions.Trigonometric.Inverse

@[expose] public section

noncomputable section

namespace Cert.Maths

open Idealize.ShloMosaic

/-! ## The first greatest entry of a row -/

/-- `a` is the first position at which `x` is greatest. -/
def FirstMax {n : ℕ} (x : Fin n → EReal) (a : Fin n) : Prop := (∀ j, x j ≤ x a) ∧ ∀ j, j < a → x j < x a

/-- Every row of at least one entry has a first greatest entry. -/
theorem exists_firstMax {n : ℕ} (x : Fin (n + 1) → EReal) : ∃ a, FirstMax x a := by
  obtain ⟨m, -, hm⟩ := Finset.exists_max_image Finset.univ x ⟨0, Finset.mem_univ _⟩
  have hne : (Finset.univ.filter fun j => x m ≤ x j).Nonempty := ⟨m, by simp⟩
  refine ⟨(Finset.univ.filter fun j => x m ≤ x j).min' hne, ?_⟩
  have ha := Finset.min'_mem _ hne
  rw [Finset.mem_filter] at ha
  refine ⟨fun j => (hm j (Finset.mem_univ _)).trans ha.2, fun j hj => ?_⟩
  by_contra hlt
  exact absurd (Finset.min'_le _ j (Finset.mem_filter.2 ⟨Finset.mem_univ _, ha.2.trans (not_lt.1 hlt)⟩)) (not_le.2 hj)

/-- The running maximum from `⊥` of a row is its greatest entry. -/
theorem fold_max_eq {n : ℕ} (f : Fin n → EReal) (a : Fin n) (h : ∀ j, f j ≤ f a) : Finset.univ.fold max ⊥ f = f a :=
  le_antisymm ((Finset.fold_max_le _).2 ⟨bot_le, fun j _ => h j⟩) ((Finset.le_fold_max _).2 (.inr ⟨a, Finset.mem_univ _, le_rfl⟩))

/-- The running minimum from `⊤` of a row is its least entry. -/
theorem fold_min_eq {n : ℕ} (f : Fin n → EReal) (a : Fin n) (h : ∀ j, f a ≤ f j) : Finset.univ.fold min ⊤ f = f a :=
  le_antisymm ((Finset.fold_min_le _).2 (.inr ⟨a, Finset.mem_univ _, le_rfl⟩)) ((Finset.le_fold_min _).2 ⟨le_top, fun j _ => h j⟩)

/-- The least position at which `x` equals its maximum, `N` elsewhere, is the position of the first greatest entry. -/
theorem fold_min_position {n : ℕ} (x : Fin n → EReal) (a : Fin n) (h : FirstMax x a) (N : ℝ) (hN : (n : ℝ) ≤ N) :
    (Finset.univ.fold min ⊤ fun k : Fin n => if x k = x a then (((k.val : ℝ)) : EReal) else (N : EReal)) = ((a.val : ℝ) : EReal) := by
  rw [fold_min_eq _ a fun j => ?_, if_pos rfl]
  rw [if_pos rfl]
  split
  · rename_i hj
    rw [EReal.coe_le_coe_iff]
    exact_mod_cast not_lt.1 fun hlt => absurd (h.2 j hlt) (by rw [hj]; exact lt_irrefl _)
  · rw [EReal.coe_le_coe_iff]
    exact le_trans (by exact_mod_cast a.isLt.le) hN

/-- The maximum of a row that is `⊥` off one position is its entry there. -/
theorem fold_max_select {n : ℕ} (u : Fin n → EReal) (a : Fin n) :
    (Finset.univ.fold max ⊥ fun k => if k = a then u k else ⊥) = u a := by
  rw [fold_max_eq _ a fun j => ?_, if_pos rfl]
  rw [if_pos rfl]
  split
  · rename_i hj; rw [hj]
  · exact bot_le

/-! ## The softplus -/

/-- The softplus, in the form that does not overflow. -/
def sp (d : ℝ) : ℝ := max d 0 + Real.log (1 + Real.exp (-|d|))

theorem sp_zero : sp 0 = Real.log 2 := by
  simp only [sp, max_self, abs_zero, neg_zero, Real.exp_zero, zero_add]
  norm_num

/-- `d − softplus d` is the log sigmoid `−softplus (−d)`. -/
theorem sub_sp (d : ℝ) : d - sp d = -sp (-d) := by
  unfold sp
  rw [abs_neg]
  rcases le_total 0 d with h | h
  · rw [max_eq_left h, max_eq_right (by linarith)]; ring
  · rw [max_eq_right h, max_eq_left (by linarith)]; ring

/-- The extended-real softplus at a real. -/
theorem log1p_exp (t : ℝ) : Ideal.log1p ((Real.exp t : ℝ) : EReal) = ((Real.log (1 + Real.exp t) : ℝ) : EReal) := by
  have h : ¬ (1 + Real.exp t ≤ 0) := not_le.2 (by positivity)
  rw [Ideal.log1p, ← EReal.coe_one, ← EReal.coe_add]
  exact if_neg h

/-- The absolute value at a real. -/
theorem abs_coe (d : ℝ) : max ((d : ℝ) : EReal) (-((d : ℝ) : EReal)) = ((|d| : ℝ) : EReal) := by
  rw [← EReal.coe_neg, ← EReal.coe_strictMono.monotone.map_max]; rfl

/-! ## Powers of two -/

theorem log_two_ne : Real.log 2 ≠ 0 := (Real.log_pos (by norm_num)).ne'

/-- A power of two is the exponential of the exponent times `log 2`. -/
theorem rpow_two (t : ℝ) : Real.rpow 2 t = Real.exp (Real.log 2 * t) :=
  Real.rpow_def_of_pos (by norm_num) t

/-- The kernel's exponential of `−|d|`, by the named constant `−1 / log 2`. -/
theorem exp2_neg_abs (d : ℝ) :
    Ideal.exp2 (((|d| : ℝ) : EReal) * ((-(Real.log 2)⁻¹ : ℝ) : EReal)) = ((Real.exp (-|d|) : ℝ) : EReal) := by
  rw [← EReal.coe_mul, Ideal.exp2_coe, rpow_two]
  congr 2
  field_simp [log_two_ne]

/-- A finite sum of reals, in the extended reals. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The kernel's standard deviation: a power of two of the scaled sum is the exponential of half the sum. -/
theorem exp2_half {ι : Type} (s : Finset ι) (x w : ι → ℝ) :
    Ideal.exp2 (∑ k ∈ s, ((x k : ℝ) : EReal) * (((w k : ℝ) : EReal) * (((2 * Real.log 2)⁻¹ : ℝ) : EReal)))
      = ((Real.exp ((∑ k ∈ s, x k * w k) / 2) : ℝ) : EReal) := by
  have h : ∀ k, ((x k : ℝ) : EReal) * (((w k : ℝ) : EReal) * (((2 * Real.log 2)⁻¹ : ℝ) : EReal))
      = ((x k * (w k * (2 * Real.log 2)⁻¹) : ℝ) : EReal) := fun k => by rw [EReal.coe_mul, EReal.coe_mul]
  simp only [h]
  rw [← coe_sum, Ideal.exp2_coe, rpow_two, Finset.mul_sum, Finset.sum_div]
  congr 2
  refine Finset.sum_congr rfl fun k _ => ?_
  field_simp [log_two_ne]

/-- The host's standard deviation: the root of an exponential is the exponential of half. -/
theorem sqrt_exp (t : ℝ) : Ideal.sqrt (Ideal.exp ((t : ℝ) : EReal)) = ((Real.exp (t / 2) : ℝ) : EReal) := by
  rw [Ideal.exp_coe, Ideal.sqrt_coe, if_neg (not_lt.2 (Real.exp_pos t).le), Real.exp_half]

/-! ## The constants -/

/-- The kernel's named constant holds the normaliser of 64 pairs and the `log 2` that the zeroed lane needs. -/
theorem log_norm_eq :
    64 * Real.log (2 * Real.pi * Real.sqrt (Real.sqrt (Real.sqrt (Real.sqrt (Real.sqrt (Real.sqrt 2))))))
      = 64 * Real.log (2 * Real.pi) + Real.log 2 := by
  have h2 : (2 * Real.pi) ≠ 0 := by positivity
  rw [Real.log_mul h2 (by positivity)]
  repeat rw [Real.log_sqrt (by positivity)]
  ring

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_128 : Ideal.ofBits .f32 0x43000000#32 = ((128 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_negHalf : Ideal.ofBits .f32 0xBF000000#32 = ((-(1 / 2) : ℝ) : EReal) := by
  simp [Ideal.ofBits, Ideal.ieee, -EReal.coe_mul]; norm_num
theorem ofBits_negOne : Ideal.ofBits .f32 0xBF800000#32 = ((-1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- `log (2 · arccos (−1))`, as the host computes it, is `log (2π)`. -/
theorem log_two_pi :
    Ideal.log (((2 : ℝ) : EReal) * Ideal.acos ((-1 : ℝ) : EReal)) = ((Real.log (2 * Real.pi) : ℝ) : EReal) := by
  rw [Ideal.acos_coe, if_pos (by norm_num), Real.arccos_neg_one, ← EReal.coe_mul]
  exact if_neg (not_le.2 (by positivity))

end Cert.Maths

end
-- ==== Proof.RowSpec.lean ====
/- What both programs compute for one row, over the reals. -/
module

public import proofs.«01_k».proof.Proof.Maths

@[expose] public section

noncomputable section

namespace Cert.RowSpec

open Idealize.ShloMosaic Cert.Maths

/-- The sample before the threshold: noise times standard deviation, plus the mean. `wm j` and `wv j` are the rows of the
    weights for the mean and the log variance of entry `j`. -/
def sample (x nz : Fin 128 → ℝ) (wm wv : Fin 128 → Fin 128 → ℝ) (j : Fin 128) : ℝ :=
  nz j * Real.exp ((∑ k, x k * wv j k) / 2) + ∑ k, x k * wm j k

/-- The first result's row: the threshold `u a` minus the softplus of the gap, the threshold itself at `a`. -/
def out (u : Fin 128 → ℝ) (a j : Fin 128) : ℝ := if j = a then u a else u a - sp (u a - u j)

/-- The log determinant: the log sigmoids of the gaps, but for position `a`. -/
def logDet (u : Fin 128 → ℝ) (a : Fin 128) : ℝ := ∑ j, if j = a then 0 else -sp (-(u a - u j))

/-- Minus the log density of the noise. -/
def negLogDensity (nz : Fin 128 → ℝ) : ℝ := ∑ j, 1 / 2 * (nz j * nz j) + 64 * Real.log (2 * Real.pi)

/-- The second result of a row. -/
def logq (u nz : Fin 128 → ℝ) (a : Fin 128) : ℝ := logDet u a + negLogDensity nz

/-- The reference's log density, summed lane by lane, is minus `negLogDensity`. -/
theorem sum_logDensity (nz : Fin 128 → ℝ) :
    ∑ j, (-(1 / 2) * (nz j * nz j) - 1 / 2 * Real.log (2 * Real.pi)) = -negLogDensity nz := by
  rw [negLogDensity, Finset.sum_sub_distrib, Finset.sum_const, Finset.card_univ, Fintype.card_fin, ← Finset.mul_sum,
    ← Finset.mul_sum, nsmul_eq_mul]
  push_cast
  ring

/-- The kernel's sum over every lane, position `a` with the others, is the second result: the lane at `a` contributes
    `−log 2`, which the kernel's constant makes up for. -/
theorem sum_all_lanes (u nz : Fin 128 → ℝ) (a : Fin 128) :
    ∑ j, ((u a - u j) - sp (u a - u j) + 1 / 2 * (nz j * nz j)) + (64 * Real.log (2 * Real.pi) + Real.log 2)
      = logq u nz a := by
  have h : ∀ j, (u a - u j) - sp (u a - u j) + 1 / 2 * (nz j * nz j)
      = (if j = a then 0 else -sp (-(u a - u j))) + (if j = a then -Real.log 2 else 0) + 1 / 2 * (nz j * nz j) := by
    intro j
    rw [sub_sp]
    split
    · rename_i hj
      rw [hj, sub_self, neg_zero, sp_zero]; ring
    · ring
  simp only [h]
  rw [Finset.sum_add_distrib, Finset.sum_add_distrib, Finset.sum_ite_eq', if_pos (Finset.mem_univ _), logq, logDet,
    negLogDensity]
  ring

end Cert.RowSpec

end
-- ==== Proof.Arrays.lean ====
/- The two results as arrays of real numbers, and what it means for the argument arrays to be made of real numbers. -/
module

public import proofs.«01_k».proof.Proof.RowSpec
public import Idealize.ShloMosaic.Lib.Pointwise

@[expose] public section

set_option maxRecDepth 16384

noncomputable section

open Idealize.ShloMosaic

namespace Cert.Arrays

open Cert.Maths

/-- Row `j` of the weights for the means. -/
def meanWeights (W : Fin 256 → Fin 128 → ℝ) (j : Fin 128) : Fin 128 → ℝ := W ⟨j.val, by omega⟩

/-- Row `j` of the weights for the log variances. -/
def varWeights (W : Fin 256 → Fin 128 → ℝ) (j : Fin 128) : Fin 128 → ℝ := W ⟨128 + j.val, by omega⟩

/-- Row `i` of the sample before the threshold. -/
def sampleRow (X N : Fin 16384 → Fin 128 → ℝ) (W : Fin 256 → Fin 128 → ℝ) (i : Fin 16384) : Fin 128 → ℝ :=
  RowSpec.sample (X i) (N i) (meanWeights W) (varWeights W)

/-- The first result. -/
def outArray (X N : Fin 16384 → Fin 128 → ℝ) (W : Fin 256 → Fin 128 → ℝ) (pos : Fin 16384 → Fin 128) :
    (⟨2, ![16384, 128]⟩ : Shape).Idx → EReal :=
  fun y => ((RowSpec.out (sampleRow X N W (y 0)) (pos (y 0)) (y 1) : ℝ) : EReal)

/-- The second result. -/
def logqArray (X N : Fin 16384 → Fin 128 → ℝ) (W : Fin 256 → Fin 128 → ℝ) (pos : Fin 16384 → Fin 128) :
    (⟨2, ![16384, 1]⟩ : Shape).Idx → EReal :=
  fun y => ((RowSpec.logq (sampleRow X N W (y 0)) (N (y 0)) (pos (y 0)) : ℝ) : EReal)

/-- The input `xs`, the weights `ws` and the noise `ns` are arrays of the given real numbers, and `pos i` is the first greatest
    position of row `i` of the input. -/
structure Inputs (xs : (⟨2, ![16384, 128]⟩ : Shape).Idx → EReal) (ws : (⟨2, ![256, 128]⟩ : Shape).Idx → EReal)
    (ns : (⟨2, ![16384, 128]⟩ : Shape).Idx → EReal) (X N : Fin 16384 → Fin 128 → ℝ) (W : Fin 256 → Fin 128 → ℝ)
    (pos : Fin 16384 → Fin 128) : Prop where
  x : ∀ i k, xs (ix2 i k) = ((X i k : ℝ) : EReal)
  w : ∀ j k, ws (ix2 j k) = ((W j k : ℝ) : EReal)
  nz : ∀ i k, ns (ix2 i k) = ((N i k : ℝ) : EReal)
  first : ∀ i, FirstMax (fun k => xs (ix2 i k)) (pos i)

/-- Arrays without infinities are arrays of real numbers, and every row has a first greatest position. -/
theorem exists_inputs (x : (⟨2, ![16384, 128]⟩ : Shape).Idx → EReal) (w : (⟨2, ![256, 128]⟩ : Shape).Idx → EReal)
    (nz : (⟨2, ![16384, 128]⟩ : Shape).Idx → EReal) (hx : ∀ i k, ∃ t : ℝ, x (ix2 i k) = t) (hw : ∀ j k, ∃ t : ℝ, w (ix2 j k) = t)
    (hnz : ∀ i k, ∃ t : ℝ, nz (ix2 i k) = t) : ∃ X N W pos, Inputs x w nz X N W pos := by
  choose X hX using hx
  choose W hW using hw
  choose N hN using hnz
  choose pos hpos using fun i => exists_firstMax fun k : Fin 128 => x (ix2 i k)
  exact ⟨X, N, W, pos, hX, hW, hN, hpos⟩

end Cert.Arrays

end
-- ==== Proof.KernelRow.lean ====
/- The kernel's body on one block, row by row: where a row of the block's inputs is made of reals, both stored rows are the
   row specification of those reals. -/
module

public import proofs.«01_k».proof.Proof.RowSpec
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Row

open Cert.KernelIdeal Cert.KernelIdeal.Gen Cert.Maths

/-! ## The named constants -/

theorem half_inv_log2 :
    Named.named (F := Ideal) κ "half_inv_log2" (φ := .f32) 0x3F38AA3B#32 = (((2 * Real.log 2)⁻¹ : ℝ) : EReal) :=
  IdealRules.named_const.ideal_named_scalar _ _ _ _ rfl

theorem neg_inv_log2 :
    Named.named (F := Ideal) κ "neg_inv_log2" (φ := .f32) 0xBFB8AA3B#32 = ((-(Real.log 2)⁻¹ : ℝ) : EReal) :=
  IdealRules.named_const.ideal_named_scalar _ _ _ _ rfl

theorem log_norm :
    Named.named (F := Ideal) κ "log_norm" (φ := .f32) 0x42ECA272#32
      = ((64 * Real.log (2 * Real.pi) + Real.log 2 : ℝ) : EReal) := by
  rw [← log_norm_eq]
  exact IdealRules.named_const.ideal_named_scalar _ _ _ _ rfl

/-! ## The mask -/

/-- A lane number as a float is that number. -/
theorem sitofp_lane (j : Fin 128) : (FloatOps.sitofp (F := Ideal) FTy.f32 (BitVec.ofNat 32 j.val)) = (((j.val : ℝ)) : EReal) := by
  show (((BitVec.ofNat 32 j.val).toInt : ℝ) : EReal) = _
  have : (BitVec.ofNat 32 j.val).toInt = (j.val : ℤ) := by
    have := j.isLt
    rw [BitVec.toInt_eq_toNat_cond, BitVec.toNat_ofNat]
    omega
  rw [this, Int.cast_natCast]

/-- The mask is set at the row's first greatest entry alone. -/
theorem mask_apply (X : Vec Ideal S2048x128 .f32) (r : Fin 2048) (a : Fin 128) (h : FirstMax (fun k => X (ix2 r k)) a)
    (j : Fin 128) : k0_pay4 X (ix2 r j) = BitVec.ofBool (decide (j = a)) := by
  have hmax : Finset.fold max (Ideal.ofBits FTy.f32 0xFF800000#32) (fun k => X (ix2 r k)) Finset.univ = X (ix2 r a) := by
    rw [ofBits_negInf]; exact fold_max_eq (fun k => X (ix2 r k)) a h.1
  pointwise [k0_pay4]
  rw [hmax]
  simp only [sitofp_lane, ofBits_posInf, ofBits_128]
  rw [fold_min_position (fun k => X (ix2 r k)) a h 128 (by norm_num)]
  congr 2
  rw [EReal.coe_eq_coe_iff, Nat.cast_inj, Fin.val_inj]

/-! ## The rows -/

section Rows

variable (X : Vec Ideal S2048x128 .f32) (M : Vec Ideal S128x128 .bf16) (V : Vec Ideal S128x128 .f32) (N : Vec Ideal S2048x128 .f32)
variable (x nz : Fin 128 → ℝ) (wm wv : Fin 128 → Fin 128 → ℝ) (r : Fin 2048) (a : Fin 128)

/-- The block's row `r` and its weights are the given reals, and `a` is the row's first greatest position. -/
structure Reads : Prop where
  x : ∀ k, X (ix2 r k) = ((x k : ℝ) : EReal)
  nz : ∀ k, N (ix2 r k) = ((nz k : ℝ) : EReal)
  wm : ∀ k j, M (ix2 k j) = ((wm j k : ℝ) : EReal)
  wv : ∀ k j, V (ix2 k j) = ((wv j k : ℝ) : EReal)
  first : FirstMax (fun k => X (ix2 r k)) a

variable {X M V N x nz wm wv r a}

theorem sample_apply (h : Reads X M V N x nz wm wv r a) (j : Fin 128) :
    k0_pay5 X M V N (ix2 r j) = ((RowSpec.sample x nz wm wv j : ℝ) : EReal) := by
  pointwise [k0_pay5]
  simp only [h.x, h.nz, h.wm, h.wv, half_inv_log2]
  rw [show ∀ t : EReal, FloatOps.exp2 (F := Ideal) (φ := .f32) t = Ideal.exp2 t from fun _ => rfl, exp2_half, RowSpec.sample,
    EReal.coe_add, EReal.coe_mul, coe_sum]
  simp only [EReal.coe_mul]

theorem halfSquare_apply (h : Reads X M V N x nz wm wv r a) (j : Fin 128) :
    k0_pay6 N (ix2 r j) = ((1 / 2 * (nz j * nz j) : ℝ) : EReal) := by
  pointwise [k0_pay6]
  rw [h.nz, ofBits_half, EReal.coe_mul, EReal.coe_mul]

theorem threshold_apply (h : Reads X M V N x nz wm wv r a) :
    k0_pay7 X M V N (ix2 r 0) = ((RowSpec.sample x nz wm wv a : ℝ) : EReal) := by
  pointwise [k0_pay7]
  rw [← sample_apply h a, ofBits_negInf, ← fold_max_select (fun k => k0_pay5 X M V N (ix2 r k)) a]
  refine Finset.fold_congr fun k _ => ?_
  rw [mask_apply X r a h.first]
  by_cases hk : k = a <;> simp [hk, Scalar.select]

theorem gap_apply (h : Reads X M V N x nz wm wv r a) (j : Fin 128) :
    k0_pay8 X M V N (ix2 r j) = ((RowSpec.sample x nz wm wv a - RowSpec.sample x nz wm wv j : ℝ) : EReal) := by
  pointwise [k0_pay8]
  rw [threshold_apply h, sample_apply h, EReal.coe_sub]

theorem expGap_apply (h : Reads X M V N x nz wm wv r a) (j : Fin 128) :
    k0_pay9 X M V N (ix2 r j) = ((Real.exp (-|RowSpec.sample x nz wm wv a - RowSpec.sample x nz wm wv j|) : ℝ) : EReal) := by
  pointwise [k0_pay9]
  rw [gap_apply h, neg_inv_log2, ← exp2_neg_abs, ← abs_coe]
  rfl

theorem softplus_apply (h : Reads X M V N x nz wm wv r a) (j : Fin 128) :
    k0_pay1 (k0_pay8 X M V N) (k0_pay9 X M V N) (ix2 r j) = ((sp (RowSpec.sample x nz wm wv a - RowSpec.sample x nz wm wv j) : ℝ) : EReal) := by
  pointwise [k0_pay1]
  rw [gap_apply h, expGap_apply h]
  rw [log1p_exp, sp, EReal.coe_add, EReal.coe_strictMono.monotone.map_max, EReal.coe_zero]

/-- The first stored block: the row specification's first result. -/
theorem out_apply (h : Reads X M V N x nz wm wv r a) (j : Fin 128) :
    k0_pay2 (k0_pay4 X) (k0_pay7 X M V N) (k0_pay8 X M V N) (k0_pay9 X M V N) (ix2 r j) = ((RowSpec.out (RowSpec.sample x nz wm wv) a j : ℝ) : EReal) := by
  pointwise [k0_pay2]
  rw [threshold_apply h, softplus_apply h, mask_apply X r a h.first, RowSpec.out]
  by_cases hj : j = a
  · simp [hj, Scalar.select]
  · simp [hj, Scalar.select]

/-- The second stored block: the row specification's second result. -/
theorem logq_apply (h : Reads X M V N x nz wm wv r a) :
    k0_pay3 (k0_pay6 N) (k0_pay8 X M V N) (k0_pay9 X M V N) (ix2 r 0) = ((RowSpec.logq (RowSpec.sample x nz wm wv) nz a : ℝ) : EReal) := by
  pointwise [k0_pay3]
  simp only [gap_apply h, softplus_apply h, halfSquare_apply h, log_norm]
  rw [← RowSpec.sum_all_lanes, EReal.coe_add (∑ j, _), coe_sum]
  simp only [EReal.coe_add, EReal.coe_sub]

end Rows

end Cert.KernelIdeal.Row

end
-- ==== Proof.KernelArray.lean ====
/- The kernel's two result arrays: block by block, every row is the row specification of that row of the arguments. -/
module

public import proofs.«01_k».proof.Proof.Arrays
public import proofs.«01_k».proof.Proof.KernelRow
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Maths Cert.Arrays

variable (m : (ℓ : Loc nD τ sig) → Buf (Elt Ideal) ℓ)

/-- Where each window's block sits at a grid point. -/
theorem place : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

section Blocks

variable (c : Dev nD) (t : Fin cfg0.N)

theorem block_x (r : Fin 2048) (k : Fin 128) (i : Fin 16384) (hi : i.val = t.val * 2048 + r.val) :
    iblk m c 0 t (ix2 r k) = m ((c : Thread nD τ).loc main_arg0) (ix2 i k) := by
  blk_ext! [iblk, V, place t]

theorem block_noise (r : Fin 2048) (k : Fin 128) (i : Fin 16384) (hi : i.val = t.val * 2048 + r.val) :
    iblk m c 1 t (ix2 r k) = m ((c : Thread nD τ).loc main_arg3) (ix2 i k) := by
  blk_ext! [iblk, V, place t]

theorem block_mean (k j : Fin 128) (i : Fin 256) (hi : i.val = j.val) :
    iblk m c 2 t (ix2 k j) = m ((c : Thread nD τ).loc main_arg1) (ix2 i k) := by
  blk_ext! [iblk, V, place t]

theorem block_var (k j : Fin 128) (i : Fin 256) (hi : i.val = 128 + j.val) :
    iblk m c 3 t (ix2 k j) = m ((c : Thread nD τ).loc main_arg1) (ix2 i k) := by
  blk_ext! [iblk, V, place t]

end Blocks

variable {m} {X N : Fin 16384 → Fin 128 → ℝ} {W : Fin 256 → Fin 128 → ℝ} {pos : Fin 16384 → Fin 128} {c : Dev nD}

/-- The arguments of device `c` are made of the given real numbers. -/
abbrev Args (m : (ℓ : Loc nD τ sig) → Buf (Elt Ideal) ℓ) (c : Dev nD) (X N : Fin 16384 → Fin 128 → ℝ) (W : Fin 256 → Fin 128 → ℝ)
    (pos : Fin 16384 → Fin 128) : Prop :=
  Inputs (m ((c : Thread nD τ).loc main_arg0)) (m ((c : Thread nD τ).loc main_arg1)) (m ((c : Thread nD τ).loc main_arg3)) X N W pos

/-- A row of the blocks at a grid point is made of the matching row of the arguments. -/
theorem reads (h : Args m c X N W pos) (t : Fin cfg0.N) (r : Fin 2048) (i : Fin 16384) (hi : i.val = t.val * 2048 + r.val) :
    Row.Reads (iblk m c 0 t) (iblk m c 2 t) (iblk m c 3 t) (iblk m c 1 t) (X i) (N i) (meanWeights W) (varWeights W) r (pos i) where
  x k := (block_x m c t r k i hi).trans (h.x i k)
  nz k := (block_noise m c t r k i hi).trans (h.nz i k)
  wm k j := (block_mean m c t k j ⟨j.val, by omega⟩ rfl).trans (h.w _ k)
  wv k j := (block_var m c t k j ⟨128 + j.val, by omega⟩ rfl).trans (h.w _ k)
  first := by
    rw [show (fun k => iblk m c 0 t (ix2 r k)) = fun k => m ((c : Thread nD τ).loc main_arg0) (ix2 i k) from
      funext fun k => block_x m c t r k i hi]
    exact h.first i

/-- Every row of every block is a row of the whole array. -/
theorem row_lt (t : Fin cfg0.N) (r : Fin 2048) : t.val * 2048 + r.val < 16384 := by
  have h : ∀ t : Fin cfg0.N, t.val < 8 := (by decide +kernel : ∀ t : Fin grid0.N, t.val < 8)
  have := h t
  omega

theorem emb_out (t : Fin cfg0.N) (r : Fin 2048) (j : Fin 128) :
    ((View.whole main_v5_0).slice (win0_4.rect t)).emb (ix2 r j) = ix2 (⟨t.val * 2048 + r.val, row_lt t r⟩ : Fin 16384) j := by
  blk_ext [place t]

theorem emb_logq (t : Fin cfg0.N) (r : Fin 2048) :
    ((View.whole main_v5_1).slice (win0_5.rect t)).emb (ix2 r (0 : Fin 1))
      = ix2 (⟨t.val * 2048 + r.val, row_lt t r⟩ : Fin 16384) (0 : Fin 1) := by
  blk_ext [place t]

/-- What a grid point stores of the first result, at its place in the array. -/
theorem out_block (h : Args m c X N W pos) (t : Fin cfg0.N) (r : Fin 2048) (j : Fin 128) :
    k0_pay2 (k0_pay4 (iblk m c 0 t)) (k0_pay7 (iblk m c 0 t) (iblk m c 2 t) (iblk m c 3 t) (iblk m c 1 t))
        (k0_pay8 (iblk m c 0 t) (iblk m c 2 t) (iblk m c 3 t) (iblk m c 1 t))
        (k0_pay9 (iblk m c 0 t) (iblk m c 2 t) (iblk m c 3 t) (iblk m c 1 t)) (ix2 r j)
      = outArray X N W pos (((View.whole main_v5_0).slice (win0_4.rect t)).emb (ix2 r j)) := by
  rw [emb_out t r j, Row.out_apply (reads h t r ⟨t.val * 2048 + r.val, row_lt t r⟩ rfl) j]
  rfl

/-- What a grid point stores of the second result, at its place in the array. -/
theorem logq_block (h : Args m c X N W pos) (t : Fin cfg0.N) (r : Fin 2048) :
    k0_pay3 (k0_pay6 (iblk m c 1 t)) (k0_pay8 (iblk m c 0 t) (iblk m c 2 t) (iblk m c 3 t) (iblk m c 1 t))
        (k0_pay9 (iblk m c 0 t) (iblk m c 2 t) (iblk m c 3 t) (iblk m c 1 t)) (ix2 r (0 : Fin 1))
      = logqArray X N W pos (((View.whole main_v5_1).slice (win0_5.rect t)).emb (ix2 r (0 : Fin 1))) := by
  rw [emb_logq t r, Row.logq_apply (reads h t r ⟨t.val * 2048 + r.val, row_lt t r⟩ rfl)]
  rfl

/-- The first result array. -/
theorem out_eq (h : Args m c X N W pos) : (dats m 0 c).arrAt 4 cfg0.N = outArray X N W pos := by
  refine (dats m 0 c).arrAt_eq_of_covers 4 _ (by decide +kernel) fun t _ y => ?_
  blk_simp
  rw [after0_4]
  unfold_out out0_4
  frame_out
  rw [eq_ix2 y]
  exact out_block h t (y 0) (y 1)

/-- The second result array. -/
theorem logq_eq (h : Args m c X N W pos) : (dats m 0 c).arrAt 5 cfg0.N = logqArray X N W pos := by
  refine (dats m 0 c).arrAt_eq_of_covers 5 _ (by decide +kernel) fun t _ y => ?_
  blk_simp
  rw [after0_5]
  unfold_out out0_5
  frame_out
  have hy : y = ix2 (y 0) (0 : Fin 1) := (eq_ix2 y).trans (congrArg (ix2 (y 0)) (Subsingleton.elim (α := Fin 1) _ _))
  rw [hy]
  exact logq_block h t (y 0)

end Cert.KernelIdeal.Array

end
-- ==== Proof.RefTerm.lean ====
/- What the reference computes, written as a few named vector expressions over its four argument arrays, and its run:
   the two results end at these expressions of the arguments at launch. -/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

abbrev A0 := FVec Ideal S16384x128 .f32
abbrev A1 := FVec Ideal S256x128 .f32
abbrev A2 := FVec Ideal S256 .f32

/-- `x Wᵀ + b`, its 256 columns seen as two halves of 128, the half's number first. -/
def halves (x : A0) (w : A1) (b : A2) : FVec Ideal S2x16384x128 .f32 :=
  transpose S2x16384x128 [1, 0, 2]
    (shapeCast S16384x2x128
      (addf (Host.dotGeneral dot_S16384x128_S128x256_S16384x256_1_0_0_1_n_n none x
          (transpose S128x256 [1, 0] w transposes_S256x128_S128x256_1_0))
        (broadcastInDim S16384x256 ![0, 1] bcast_S1x256_S16384x256_0_1
          (broadcastInDim S1x256 ![1] bcast_S256_S1x256_1 b)))
      shapeCasts_S16384x256_S16384x2x128)
    transposes_S16384x2x128_S2x16384x128_1_0_2

/-- The means: the first half. -/
def mean (x : A0) (w : A1) (b : A2) : A0 :=
  shapeCast S16384x128 (extractStridedSlice S1x16384x128 ![0, 0, 0] (halves x w b) slices_S2x16384x128_S1x16384x128_0_0_0)
    shapeCasts_S1x16384x128_S16384x128

/-- The logarithms of the variances: the second half. -/
def logVar (x : A0) (w : A1) (b : A2) : A0 :=
  shapeCast S16384x128 (extractStridedSlice S1x16384x128 ![1, 0, 0] (halves x w b) slices_S2x16384x128_S1x16384x128_1_0_0)
    shapeCasts_S1x16384x128_S16384x128

/-- The sample before the threshold: noise times standard deviation, plus the mean. -/
def sample (x : A0) (w : A1) (b : A2) (nz : A0) : A0 :=
  addf (mulf nz (Host.sqrt (Host.exp (logVar x w b)))) (mean x w b)

/-- The log density of the noise, one number to a row. -/
def logDensity (nz : A0) : FVec Ideal S16384x1 .f32 :=
  broadcastInDim S16384x1 ![0] bcast_S16384_S16384x1_0
    (Host.reduceAdd
      (subf (mulf (broadcastInDim S16384x128 ![] bcast_S_S16384x128 (constant S_ .f32 0xBF000000#32)) (mulf nz nz))
        (broadcastInDim S16384x128 ![] bcast_S_S16384x128
          (mulf (constant S_ .f32 0x3F000000#32)
            (Host.log (mulf (constant S_ .f32 0x40000000#32) (Host.acos (constant S_ .f32 0xBF800000#32)))))))
      (constant S_ .f32 0x00000000#32) reducesTo_S16384x128_S16384_d1 h_S_)

/-- The column of each row's first greatest entry. -/
def column (x : A0) : IVec S16384 32 := fun j =>
  (Host.argReduce reducer_argmax_f32_i32 x (iotaInDim S16384x128 32 1) (constant S_ .f32 0xFF800000#32) (constantI S_ 32 0#32)
    reducesTo_S16384x128_S16384_d1 h_S_ j).2

/-- An index that is negative counts from the end of an axis of `n` positions. -/
def fromEnd (n : BitVec 32) (i : IVec S16384 32) : IVec S16384 32 :=
  select (cmpi .slt i (broadcastInDim S16384 ![] bcast_S_S16384 (constantI S_ 32 0#32)))
    (addi i (broadcastInDim S16384 ![] bcast_S_S16384 (constantI S_ 32 n))) i

/-- The table of (row, column) positions of the greatest entries. -/
def places (x : A0) : IVec S16384x2 32 :=
  concatenate S16384x2 1
    [⟨S16384x1, broadcastInDim S16384x1 ![0] bcast_S16384_S16384x1_0 (fromEnd 16384#32 (iotaInDim S16384 32 0))⟩,
     ⟨S16384x1, broadcastInDim S16384x1 ![0] bcast_S16384_S16384x1_0 (fromEnd 128#32 (column x))⟩]
    concatenates_S16384x1_S16384x1_S16384x2_d1

/-- The threshold: the sample at the row's greatest entry. -/
def threshold (x : A0) (w : A1) (b : A2) (nz : A0) : FVec Ideal S16384 .f32 :=
  Host.gather gather_S16384x128_S16384x2_S16384_n_01_n_n_01_1_11 (sample x w b nz) (places x)

/-- One number to a row, repeated along the row. -/
def along (t : FVec Ideal S16384 .f32) : A0 :=
  broadcastInDim S16384x128 ![0, 1] bcast_S16384x1_S16384x128_0_1 (broadcastInDim S16384x1 ![0] bcast_S16384_S16384x1_0 t)

/-- How far the sample is below the threshold. -/
def gap (x : A0) (w : A1) (b : A2) (nz : A0) : A0 := subf (along (threshold x w b nz)) (sample x w b nz)

/-- The zero array. -/
def zeros : A0 := broadcastInDim S16384x128 ![] bcast_S_S16384x128 (constant S_ .f32 0x00000000#32)

/-- The reference's softplus. -/
def softplus (d : A0) : A0 :=
  select (cmpf .une (subf d zeros) (subf d zeros)) (addf d zeros)
    (addf (maximumf d zeros) (Host.log1p (Host.exp (Host.negf (Host.absf (subf d zeros))))))

/-- The first result: the threshold minus the softplus of the gap, the threshold itself at the greatest entry. -/
def out (x : A0) (w : A1) (b : A2) (nz : A0) : A0 :=
  Host.scatter scatter_S16384x128_S16384x2_S16384_n_01_01_1 (fun _ u => u)
    (subf (along (threshold x w b nz)) (softplus (gap x w b nz))) (places x) (threshold x w b nz)

/-- The terms of the log determinant: the log sigmoid of the gap, zero at the greatest entry. -/
def logSlopes (x : A0) (w : A1) (b : A2) (nz : A0) : A0 :=
  Host.scatter scatter_S16384x128_S16384x2_S16384_n_01_01_1 (fun _ u => u)
    (Host.negf (softplus (Host.negf (gap x w b nz)))) (places x)
    (broadcastInDim S16384 ![] bcast_S_S16384 (constant S_ .f32 0x00000000#32))

/-- The second result: minus the log density of the output. -/
def logq (x : A0) (w : A1) (b : A2) (nz : A0) : FVec Ideal S16384x1 .f32 :=
  Host.negf (subf (logDensity nz)
    (broadcastInDim S16384x1 ![0] bcast_S16384_S16384x1_0
      (Host.reduceAdd (logSlopes x w b nz) (constant S_ .f32 0x00000000#32) reducesTo_S16384x128_S16384_d1 h_S_)))

variable (m : (ℓ : Loc nD τ sig) → Buf (Elt Ideal) ℓ) (g : Dev nD → PrngReg)

set_option maxHeartbeats 4000000 in
/-- The reference's run: every device ends with the two results at `out` and `logq` of its arguments, and the arguments
    as they were. -/
theorem run : θ_run (defs (F := Ideal)) (onTc (τ := τ) (main (F := Ideal))) ⟨m, fun _ => 0, g⟩ fun r => ∀ c : Dev nD,
      (r.2.mem ((c.tc : Thread nD τ).loc main_v63)
          = out (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_v86)
          = logq (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  · rfl
  · rfl

end Cert.ReferenceIdeal.Term

end
-- ==== Proof.RefColumn.lean ====
/- The reference's index of a row's greatest entry is the first greatest position. -/
module

public import proofs.«01_k».proof.Proof.RefTerm
public import proofs.«01_k».proof.Proof.Maths
public import Idealize.ShloMosaic.Lib.Pointwise
public import Idealize.ShloMosaic.PureOps.Reduce
public import Idealize.ShloMosaic.PureOps.Ideal.Laws

@[expose] public section

set_option maxRecDepth 16384

noncomputable section

open Idealize.ShloMosaic Idealize.ShloMosaic.TcCoe Idealize.SL.Sem

namespace Cert.ReferenceIdeal.Index

open Cert.ReferenceIdeal Cert.ReferenceIdeal.Gen Cert.ReferenceIdeal.Term Cert.Maths

/-! ## A fold that keeps the best element -/

/-- A fold ends at `p` when `p` is in the list, `p` beats every other element from either side, and of two beaten elements a
    beaten one stays. -/
theorem foldl_best {α : Type} (f : α → α → α) (p : α) (L : α → Prop) (hp : f p p = p) (hl : ∀ s, L s → f p s = p)
    (hr : ∀ s, L s → f s p = p) (hc : ∀ r s, L r → L s → L (f r s)) :
    ∀ (l : List α) (s : α), (∀ q ∈ l, q = p ∨ L q) → (s = p ∨ (L s ∧ p ∈ l)) → l.foldl f s = p
  | [], s, _, hs => by
    rcases hs with hs | ⟨_, hs⟩
    · exact hs
    · exact absurd hs List.not_mem_nil
  | q :: l, s, hq, hs => by
    rw [List.foldl_cons]
    refine foldl_best f p L hp hl hr hc l _ (fun q' h => hq q' (List.mem_cons_of_mem _ h)) ?_
    have hq0 := hq q List.mem_cons_self
    rcases hs with rfl | ⟨hs, hm⟩
    · rcases hq0 with rfl | h
      · exact Or.inl hp
      · exact Or.inl (hl q h)
    · rcases hq0 with rfl | h
      · exact Or.inl (hr s hs)
      · rcases List.mem_cons.1 hm with rfl | hm
        · exact Or.inl (hr s hs)
        · exact Or.inr ⟨hc s q hs h, hm⟩

/-! ## The index of the greatest entry -/

/-- One step of the search keeps the left pair when its value is greater, or equal with a smaller index. -/
theorem reducer_apply (r s : EReal × BitVec 32) :
    reducer_argmax_f32_i32 (F := Ideal) r s = if s.1 < r.1 ∨ (r.1 = s.1 ∧ r.2.slt s.2 = true) then r else s := by
  obtain ⟨x, i⟩ := r
  obtain ⟨y, j⟩ := s
  have h1 : FloatOps.cmpf (F := Ideal) (φ := .f32) .ogt x y = BitVec.ofBool (decide (y < x)) := by
    simp [Ideal.cmpf_def, Ideal.cmp]
  have h2 : FloatOps.cmpf (F := Ideal) (φ := .f32) .une x x = 0#1 := by
    simp [Ideal.cmpf_def, Ideal.cmp]
  have h3 : FloatOps.cmpf (F := Ideal) (φ := .f32) .oeq x y = BitVec.ofBool (decide (x = y)) := by
    simp [Ideal.cmpf_def, Ideal.cmp]
  have h4 : IntOp.cmpi .slt i j = BitVec.ofBool (i.slt j) := rfl
  unfold reducer_argmax_f32_i32
  dsimp only
  rw [h1, h2, h3, h4]
  rcases lt_trichotomy x y with h | h | h
  · simp [h.ne, not_lt.2 h.le, IntOp.ori, IntOp.andi, Scalar.select]
  · subst h
    cases hij : i.slt j <;> simp [IntOp.ori, IntOp.andi, Scalar.select]
  · simp [h, h.ne', IntOp.ori, IntOp.andi, Scalar.select]

/-- A row's pair that the greatest one beats: a smaller value, or the same one at a later position. -/
def Beaten (p s : EReal × BitVec 32) : Prop := s.1 < p.1 ∨ (p.1 = s.1 ∧ p.2.slt s.2 = true)

theorem slt_ofNat (a b : Fin 128) (h : a < b) : (BitVec.ofNat 32 a.val).slt (BitVec.ofNat 32 b.val) = true := by
  have ha := a.isLt
  have hb := b.isLt
  have h' : a.val < b.val := h
  rw [BitVec.slt_iff_toInt_lt, BitVec.toInt_eq_toNat_cond, BitVec.toInt_eq_toNat_cond, BitVec.toNat_ofNat, BitVec.toNat_ofNat]
  omega

theorem slt_asymm (i j : BitVec 32) (h : i.slt j = true) : ¬ j.slt i = true := by
  rw [BitVec.slt_iff_toInt_lt] at h ⊢
  omega

/-- The search over a list of pairs that holds the best one ends there. -/
theorem foldl_reducer (p : EReal × BitVec 32) (l : List (EReal × BitVec 32)) (s : EReal × BitVec 32)
    (hl : ∀ q ∈ l, q = p ∨ Beaten p q) (hs : Beaten p s) (hm : p ∈ l) :
    l.foldl (reducer_argmax_f32_i32 (F := Ideal)) s = p := by
  refine foldl_best _ p (Beaten p) ?_ ?_ ?_ ?_ l s hl (Or.inr ⟨hs, hm⟩)
  · rw [reducer_apply]; exact ite_self _
  · intro q hq; rw [reducer_apply]; exact if_pos hq
  · intro q hq
    rw [reducer_apply, if_neg]
    rintro (h | ⟨h, h'⟩)
    · rcases hq with hq | ⟨hq, _⟩
      · exact lt_asymm h hq
      · exact h.ne hq
    · rcases hq with hq | ⟨_, hq⟩
      · exact hq.ne h
      · exact slt_asymm _ _ hq h'
  · intro q q' hq hq'
    rw [reducer_apply]
    split
    · exact hq
    · exact hq'

/-- The pairs that a search along the rows of a matrix goes through for row `i` are those of that row. -/
theorem mem_fiber {R C : ℕ} {α β : Type} (h : Shape.ReducesTo ⟨2, ![R, C]⟩ [1] ⟨1, ![R]⟩) (x : (⟨2, ![R, C]⟩ : Shape).Idx → α)
    (y : (⟨2, ![R, C]⟩ : Shape).Idx → β) (i : Fin R) (q : α × β) :
    q ∈ Host.argReduceFiber x y h (ix1 i) ↔ ∃ k : Fin C, q = (x (ix2 i k), y (ix2 i k)) := by
  have hd : ∀ c : (⟨2, ![R, C]⟩ : Shape).Idx, (h.drop c (0 : Fin 1) : ℕ) = (c 0).val := fun c =>
    Shape.ReducesTo.drop_apply_val_of_eq h c 0 0 (by exact Nat.zero_lt_one) rfl
  unfold Host.argReduceFiber
  simp only [List.mem_map, List.mem_filter, List.mem_finRange, true_and, decide_eq_true_eq]
  constructor
  · rintro ⟨n, hn, rfl⟩
    have e : (⟨2, ![R, C]⟩ : Shape).rowMajor.symm n 0 = i := by
      apply Fin.ext
      rw [← hd, hn]
      rfl
    refine ⟨(⟨2, ![R, C]⟩ : Shape).rowMajor.symm n 1, ?_⟩
    rw [← e, ← eq_ix2]
  · rintro ⟨k, rfl⟩
    refine ⟨(⟨2, ![R, C]⟩ : Shape).rowMajor (ix2 i k), ?_, ?_⟩
    · rw [Equiv.symm_apply_apply]
      funext b
      match b with
      | ⟨0, _⟩ => exact Fin.ext (hd (ix2 i k))
    · rw [Equiv.symm_apply_apply]

/-- The reference's index of a row's greatest entry is the first greatest position. -/
theorem column_apply (x : A0) (i : Fin 16384) (a : Fin 128) (h : FirstMax (fun k => x (ix2 i k)) a) (hbot : ⊥ < x (ix2 i a)) :
    column x (ix1 i) = BitVec.ofNat 32 a.val := by
  have e : ∀ k : Fin 128, iotaInDim S16384x128 32 1 (ix2 i k) = BitVec.ofNat 32 k.val := fun _ => rfl
  unfold column
  rw [Ideal.argReduce_eq_reduce2, Host.reduce2_eq_foldl_fiber,
    foldl_reducer (x (ix2 i a), BitVec.ofNat 32 a.val) _ _ ?_ ?_ ?_]
  · intro q hq
    obtain ⟨k, rfl⟩ := (mem_fiber _ x (iotaInDim S16384x128 32 1) i q).1 hq
    rw [e]
    rcases lt_trichotomy k a with hk | rfl | hk
    · exact Or.inr (Or.inl (h.2 k hk))
    · exact Or.inl rfl
    · rcases (h.1 k).lt_or_eq with hx | hx
      · exact Or.inr (Or.inl hx)
      · exact Or.inr (Or.inr ⟨hx.symm, slt_ofNat a k hk⟩)
  · refine Or.inl ?_
    show Ideal.ofBits FTy.f32 0xFF800000#32 < _
    rw [ofBits_negInf]
    exact hbot
  · exact (mem_fiber _ x (iotaInDim S16384x128 32 1) i _).2 ⟨a, by rw [e]⟩

end Cert.ReferenceIdeal.Index

end
-- ==== Proof.PairIndex.lean ====
/- A gather and a scatter that go through a table of one (row, column) pair to every row of a matrix, at any extents. -/
module

public import Idealize.ShloMosaic.Lib.Pointwise
public import Idealize.ShloMosaic.Lib.Routing.OpsPair
public import Idealize.ShloMosaic.Lib.Routing.OpsSet

@[expose] public section

noncomputable section

open Idealize.ShloMosaic

namespace Cert.PairIndex

variable {R C w : ℕ}

section Gather

variable (d : GatherDims ⟨2, ![R, C]⟩ ⟨2, ![R, 2]⟩ ⟨1, ![R]⟩) (ho : d.offsetDims = []) (hc : d.collapsedSliceDims = [0, 1])
  (hb : d.operandBatchingDims = []) (hm : d.startIndexMap = [0, 1]) (hv : d.indexVectorDim = 1)

include ho hm hv in
/-- The slice for row `i` starts, on axis `q`, at word `q` of the table's row `i`. -/
theorem gather_start (i : Fin R) (idx : IVec ⟨2, ![R, 2]⟩ w) (q : Fin 2) :
    d.start (ix1 i) idx q = min (idx (ix2 i q)).toInt.toNat (![R, C] q - d.sliceSizes q) := by
  have hq : q ∈ d.startIndexMap := by rw [hm]; fin_cases q <;> simp
  unfold GatherDims.start
  rw [dif_pos hq]
  refine congrArg (fun p => min (idx p).toInt.toNat (![R, C] q - d.sliceSizes q)) (funext fun b => Fin.ext ?_)
  obtain ⟨od, cd, ob, sb, sm, iv, ss, wf⟩ := d
  dsimp only at ho hm hv
  subst ho hm hv
  match b with
  | ⟨0, _⟩ => rfl
  | ⟨1, _⟩ => fin_cases q <;> rfl

include ho hc hb hm hv in
/-- The gather reads, for row `i`, the entry that the table's row `i` names. -/
theorem gather_apply {α : Type} (u : (⟨2, ![R, C]⟩ : Shape).Idx → α) (idx : IVec ⟨2, ![R, 2]⟩ w) (i r : Fin R) (c : Fin C)
    (h0 : (idx (ix2 i 0)).toInt = r.val) (h1 : (idx (ix2 i 1)).toInt = c.val) : Host.gather d u idx (ix1 i) = u (ix2 r c) := by
  have hr := r.isLt
  have hcl := c.isLt
  have hs : ∀ q : Fin 2, d.sliceSizes q = 1 := fun q => d.slice_collapsed q (by rw [hc]; fin_cases q <;> simp)
  have hn : ∀ q : Fin 2, d.batchCoord (ix1 i) q = 0 := fun q => d.batchCoord_eq_zero _ q (by rw [hb]; exact List.not_mem_nil)
  have hk : ∀ q : Fin 2, d.offCoord (ix1 i) q = 0 := fun q =>
    d.offCoord_eq_zero _ q (by rw [GatherDims.mem_sKept, hc]; fin_cases q <;> simp)
  unfold Host.gather
  refine congrArg u (funext fun q => Fin.ext ?_)
  match q with
  | ⟨0, _⟩ =>
    simp only [GatherDims.operandIdx]
    have e := gather_start d ho hm hv i idx 0
    rw [h0, hs] at e
    have e' : ![R, C] (0 : Fin 2) = R := rfl
    rw [e'] at e
    have en := hn 0
    have ek := hk 0
    show d.start (ix1 i) idx (0 : Fin 2) + d.batchCoord (ix1 i) (0 : Fin 2) + d.offCoord (ix1 i) (0 : Fin 2) = r.val
    omega
  | ⟨1, _⟩ =>
    simp only [GatherDims.operandIdx]
    have e := gather_start d ho hm hv i idx 1
    rw [h1, hs] at e
    have e' : ![R, C] (1 : Fin 2) = C := rfl
    rw [e'] at e
    have en := hn 1
    have ek := hk 1
    show d.start (ix1 i) idx (1 : Fin 2) + d.batchCoord (ix1 i) (1 : Fin 2) + d.offCoord (ix1 i) (1 : Fin 2) = c.val
    omega

end Gather

section Scatter

variable (d : ScatterDims ⟨2, ![R, C]⟩ ⟨2, ![R, 2]⟩ ⟨1, ![R]⟩) (hu : d.updateWindowDims = []) (hi : d.insertedWindowDims = [0, 1])
  (hm : d.scatterDimsToOperandDims = [0, 1]) (hv : d.indexVectorDim = 1)

include hu hm hv in
/-- The update of row `k` starts, on axis `q`, at word `q` of the table's row `k`. -/
theorem scatter_start (k : Fin R) (idx : IVec ⟨2, ![R, 2]⟩ w) (q : Fin 2) : d.start (ix1 k) idx q = (idx (ix2 k q)).toInt := by
  have hq : q ∈ d.scatterDimsToOperandDims := by rw [hm]; fin_cases q <;> simp
  unfold ScatterDims.start
  rw [dif_pos hq]
  refine congrArg (fun p => (idx p).toInt) (funext fun b => Fin.ext ?_)
  obtain ⟨uw, iw, sd, iv, wf⟩ := d
  dsimp only at hu hm hv
  subst hu hm hv
  match b with
  | ⟨0, _⟩ => rfl
  | ⟨1, _⟩ => fin_cases q <;> rfl

include hu hi hm hv in
/-- The update of row `k` lands at `(i, j)` exactly when the table's row `k` is `(i, j)`. -/
theorem lands (k i : Fin R) (j : Fin C) (idx : IVec ⟨2, ![R, 2]⟩ w) :
    d.resultIdx? (ix1 k) idx = some (ix2 i j) ↔ (idx (ix2 k 0)).toInt = i.val ∧ (idx (ix2 k 1)).toInt = j.val := by
  have hw : ∀ q : Fin 2, d.window (ix1 k) q = 0 := fun q => by
    unfold ScatterDims.window
    rw [dif_neg fun h => (of_decide_eq_true (List.mem_filter.1 h).2) (by rw [hi]; fin_cases q <;> simp)]
  have h0 := scatter_start d hu hm hv k idx 0
  have h1 := scatter_start d hu hm hv k idx 1
  rw [Routing.resultIdx?_eq_some]
  have e : (∀ q : Fin 2, d.start (ix1 k) idx q + (d.window (ix1 k) q : ℤ) = (((ix2 i j : (⟨2, ![R, C]⟩ : Shape).Idx) q).val : ℤ))
      ↔ d.start (ix1 k) idx (0 : Fin 2) + (d.window (ix1 k) (0 : Fin 2) : ℤ) = (i.val : ℤ)
        ∧ d.start (ix1 k) idx (1 : Fin 2) + (d.window (ix1 k) (1 : Fin 2) : ℤ) = (j.val : ℤ) := Fin.forall_fin_two
  refine e.trans ?_
  rw [h0, h1, hw, hw, Int.natCast_zero, add_zero, add_zero]

include hu hi hm hv in
/-- The scatter writes row `i`'s update at the entry `(i, pos i)` and leaves the rest of the row. -/
theorem scatter_apply {α : Type} (v : (⟨2, ![R, C]⟩ : Shape).Idx → α) (idx : IVec ⟨2, ![R, 2]⟩ w)
    (t : (⟨1, ![R]⟩ : Shape).Idx → α) (pos : Fin R → Fin C) (h0 : ∀ k, (idx (ix2 k 0)).toInt = k.val)
    (h1 : ∀ k, (idx (ix2 k 1)).toInt = (pos k).val) (i : Fin R) (j : Fin C) :
    Host.scatter d (fun _ b => b) v idx t (ix2 i j) = if j = pos i then t (ix1 i) else v (ix2 i j) := by
  have hl : ∀ k : (⟨1, ![R]⟩ : Shape).Idx, d.resultIdx? k idx = some (ix2 i j) ↔ k = ix1 i ∧ pos i = j := by
    intro k
    obtain ⟨k, rfl⟩ : ∃ k' : Fin R, k = ix1 k' := ⟨k 0, eq_ix1 k⟩
    rw [lands d hu hi hm hv, h0, h1, Int.natCast_inj, Int.natCast_inj, Fin.val_inj, Fin.val_inj]
    constructor
    · rintro ⟨rfl, e⟩; exact ⟨rfl, e⟩
    · rintro ⟨e, e'⟩
      have : k = i := congrFun e 0
      subst this
      exact ⟨rfl, e'⟩
  split
  · rename_i hj
    exact Routing.scatter_set_hit d v idx t (ix2 i j) (t (ix1 i)) (fun k hk => by rw [((hl k).1 hk).1]) (ix1 i)
      ((hl _).2 ⟨rfl, hj.symm⟩)
  · rename_i hj
    exact Routing.scatter_set_miss d v idx t (ix2 i j) fun k hk => hj ((hl k).1 hk).2.symm

end Scatter

end Cert.PairIndex

end
-- ==== Proof.RefIndex.lean ====
/- The reference's indexing: its table of positions holds the row numbers and the first greatest positions, and its gather and
   scatter read and write one entry of every row. -/
module

public import proofs.«01_k».proof.Proof.RefColumn
public import proofs.«01_k».proof.Proof.PairIndex

@[expose] public section

set_option maxRecDepth 16384

noncomputable section

open Idealize.ShloMosaic Idealize.ShloMosaic.TcCoe Idealize.SL.Sem

namespace Cert.ReferenceIdeal.Index

open Cert.ReferenceIdeal Cert.ReferenceIdeal.Gen Cert.ReferenceIdeal.Term Cert.Maths

/-! ## The table of positions -/

theorem places_row (x : A0) (i : Fin 16384) : places x (ix2 i 0) = BitVec.ofNat 32 i.val := by
  pointwise [places, fromEnd]
  exact Routing.wrap_of_lt _ _ (by rw [BitVec.toNat_ofNat]; omega)

theorem places_column (x : A0) (i : Fin 16384) (a : Fin 128) (h : column x (ix1 i) = BitVec.ofNat 32 a.val) :
    places x (ix2 i 1) = BitVec.ofNat 32 a.val := by
  pointwise [places, fromEnd]
  rw [h]
  exact Routing.wrap_of_lt _ _ (by rw [BitVec.toNat_ofNat]; omega)

theorem toInt_ofNat (n : ℕ) (h : n < 2 ^ 31) : (BitVec.ofNat 32 n).toInt = (n : ℤ) := by
  rw [BitVec.toInt_eq_toNat_cond, BitVec.toNat_ofNat]
  omega

/-! ## The gather and the scatter -/

/-- The gather reads every row at its greatest entry. -/
theorem gather_apply {α : Type} (u : S16384x128.Idx → α) (x : A0) (i : Fin 16384) (a : Fin 128)
    (h : column x (ix1 i) = BitVec.ofNat 32 a.val) :
    Host.gather gather_S16384x128_S16384x2_S16384_n_01_n_n_01_1_11 u (places x) (ix1 i) = u (ix2 i a) :=
  PairIndex.gather_apply _ rfl rfl rfl rfl rfl u (places x) i i a (by rw [places_row, toInt_ofNat _ (by omega)])
    (by rw [places_column x i a h, toInt_ofNat _ (by omega)])

/-- The scatter writes the row's update at the row's greatest entry and leaves the rest of the row. -/
theorem scatter_apply {α : Type} (v : S16384x128.Idx → α) (t : S16384.Idx → α) (x : A0) (pos : Fin 16384 → Fin 128)
    (h : ∀ i, column x (ix1 i) = BitVec.ofNat 32 (pos i).val) (i : Fin 16384) (j : Fin 128) :
    Host.scatter scatter_S16384x128_S16384x2_S16384_n_01_01_1 (fun _ u => u) v (places x) t (ix2 i j)
      = if j = pos i then t (ix1 i) else v (ix2 i j) :=
  PairIndex.scatter_apply _ rfl rfl rfl rfl v (places x) t pos (fun k => by rw [places_row, toInt_ofNat _ (by omega)])
    (fun k => by rw [places_column x k (pos k) (h k), toInt_ofNat _ (by omega)]) i j

end Cert.ReferenceIdeal.Index

end
-- ==== Proof.RefRow.lean ====
/- The reference's two results: every row is the row specification of that row of the arguments. -/
module

public import proofs.«01_k».proof.Proof.Arrays
public import proofs.«01_k».proof.Proof.RefIndex

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Term Cert.Maths Cert.Arrays

variable {x nz : A0} {w : A1} {b : A2} {X N : Fin 16384 → Fin 128 → ℝ} {W : Fin 256 → Fin 128 → ℝ} {pos : Fin 16384 → Fin 128}

theorem mean_apply (h : Inputs x w nz X N W pos) (hb : ∀ j, b (ix1 j) = 0) (i : Fin 16384) (j : Fin 128) :
    mean x w b (ix2 i j) = ((∑ k, X i k * meanWeights W j k : ℝ) : EReal) := by
  pointwise [mean, halves]
  simp only [h.x, h.w, hb, add_zero, coe_sum, EReal.coe_mul]
  rfl

theorem logVar_apply (h : Inputs x w nz X N W pos) (hb : ∀ j, b (ix1 j) = 0) (i : Fin 16384) (j : Fin 128) :
    logVar x w b (ix2 i j) = ((∑ k, X i k * varWeights W j k : ℝ) : EReal) := by
  pointwise [logVar, halves]
  simp only [h.x, h.w, hb, add_zero, coe_sum, EReal.coe_mul]
  rfl

theorem sample_apply (h : Inputs x w nz X N W pos) (hb : ∀ j, b (ix1 j) = 0) (i : Fin 16384) (j : Fin 128) :
    sample x w b nz (ix2 i j) = ((sampleRow X N W i j : ℝ) : EReal) := by
  pointwise [sample]
  rw [mean_apply h hb, logVar_apply h hb, h.nz, sqrt_exp, sampleRow, RowSpec.sample, EReal.coe_add, EReal.coe_mul]

theorem logDensity_apply (h : Inputs x w nz X N W pos) (i : Fin 16384) :
    logDensity nz (ix2 i 0) = ((-RowSpec.negLogDensity (N i) : ℝ) : EReal) := by
  pointwise [logDensity]
  rw [ofBits_negHalf, ofBits_half, ofBits_two, ofBits_negOne, log_two_pi, ← RowSpec.sum_logDensity, coe_sum]
  refine Finset.sum_congr rfl fun k _ => ?_
  rw [h.nz, EReal.coe_sub, EReal.coe_mul, EReal.coe_mul, EReal.coe_mul]

theorem column_pos (h : Inputs x w nz X N W pos) (i : Fin 16384) : column x (ix1 i) = BitVec.ofNat 32 (pos i).val :=
  Index.column_apply x i (pos i) (h.first i) (by rw [h.x]; exact EReal.bot_lt_coe _)

theorem threshold_apply (h : Inputs x w nz X N W pos) (hb : ∀ j, b (ix1 j) = 0) (i : Fin 16384) :
    threshold x w b nz (ix1 i) = ((sampleRow X N W i (pos i) : ℝ) : EReal) :=
  (Index.gather_apply _ x i (pos i) (column_pos h i)).trans (sample_apply h hb i (pos i))

theorem along_apply (t : FVec Ideal S16384 .f32) (i : Fin 16384) (j : Fin 128) : along t (ix2 i j) = t (ix1 i) := by
  pointwise [along]

theorem gap_apply (h : Inputs x w nz X N W pos) (hb : ∀ j, b (ix1 j) = 0) (i : Fin 16384) (j : Fin 128) :
    gap x w b nz (ix2 i j) = ((sampleRow X N W i (pos i) - sampleRow X N W i j : ℝ) : EReal) := by
  pointwise [gap]
  rw [along_apply, threshold_apply h hb, sample_apply h hb, EReal.coe_sub]

theorem softplus_apply (d : A0) (i : Fin 16384) (j : Fin 128) (r : ℝ) (hd : d (ix2 i j) = (r : EReal)) :
    softplus d (ix2 i j) = ((sp r : ℝ) : EReal) := by
  pointwise [softplus, zeros]
  rw [if_neg (not_not.2 rfl), hd, show ∀ t : EReal, FloatOps.absf (F := Ideal) (φ := .f32) t = max t (-t) from fun _ => rfl,
    abs_coe, ← EReal.coe_neg, Ideal.exp_coe, log1p_exp, sp, EReal.coe_add, EReal.coe_strictMono.monotone.map_max, EReal.coe_zero]

theorem out_apply (h : Inputs x w nz X N W pos) (hb : ∀ j, b (ix1 j) = 0) (i : Fin 16384) (j : Fin 128) :
    out x w b nz (ix2 i j) = ((RowSpec.out (sampleRow X N W i) (pos i) j : ℝ) : EReal) := by
  unfold out
  rw [Index.scatter_apply _ _ x pos (column_pos h), threshold_apply h hb, RowSpec.out]
  split
  · rfl
  · pointwise
    rw [along_apply, threshold_apply h hb, softplus_apply _ i j _ (gap_apply h hb i j), EReal.coe_sub]

theorem logSlopes_apply (h : Inputs x w nz X N W pos) (hb : ∀ j, b (ix1 j) = 0) (i : Fin 16384) (j : Fin 128) :
    logSlopes x w b nz (ix2 i j)
      = ((if j = pos i then 0 else -sp (-(sampleRow X N W i (pos i) - sampleRow X N W i j)) : ℝ) : EReal) := by
  unfold logSlopes
  rw [Index.scatter_apply _ _ x pos (column_pos h)]
  split
  · pointwise
    rfl
  · have e : Host.negf (gap x w b nz) (ix2 i j) = ((-(sampleRow X N W i (pos i) - sampleRow X N W i j) : ℝ) : EReal) := by
      pointwise
      rw [gap_apply h hb, EReal.coe_neg]
    pointwise
    rw [softplus_apply _ i j _ e, EReal.coe_neg]

theorem logq_apply (h : Inputs x w nz X N W pos) (hb : ∀ j, b (ix1 j) = 0) (i : Fin 16384) :
    logq x w b nz (ix2 i 0) = ((RowSpec.logq (sampleRow X N W i) (N i) (pos i) : ℝ) : EReal) := by
  pointwise [logq]
  rw [logDensity_apply h]
  simp only [logSlopes_apply h hb]
  rw [← coe_sum, ← EReal.coe_sub, ← EReal.coe_neg]
  refine congrArg (fun t : ℝ => (t : EReal)) ?_
  rw [RowSpec.logq, RowSpec.logDet]
  ring

/-- The first result. -/
theorem out_eq (h : Inputs x w nz X N W pos) (hb : ∀ j, b (ix1 j) = 0) : out x w b nz = outArray X N W pos := by
  funext y
  rw [eq_ix2 y]
  exact out_apply h hb (y 0) (y 1)

/-- The second result. -/
theorem logq_eq (h : Inputs x w nz X N W pos) (hb : ∀ j, b (ix1 j) = 0) : logq x w b nz = logqArray X N W pos := by
  funext y
  have hy : y = ix2 (y 0) (0 : Fin 1) := (eq_ix2 y).trans (congrArg (ix2 (y 0)) (Subsingleton.elim (α := Fin 1) _ _))
  rw [hy]
  exact logq_apply h hb (y 0)

end Cert.ReferenceIdeal.Row

end
-- ==== Proof.Finite.lean ====
/- What the precondition says: the input, the weights and the noise are made of real numbers, and the bias is zero. -/
module

public import proofs.«01_k».proof.Defs
public import proofs.«01_k».proof.Proof.Gen.Pre_finite_unbiased
public import proofs.«01_k».proof.Proof.Maths
public import Idealize.ShloMosaic.Lib.Pointwise

@[expose] public section

set_option maxRecDepth 16384

noncomputable section

open Idealize.ShloMosaic Idealize.SL.Sem

namespace Cert.Finite

open Cert.Pre_finite_unbiased Cert.Maths

/-- An extended real whose absolute value is below infinity is a real number. -/
theorem exists_real (a : EReal) (h : FloatOps.cmpf (F := Ideal) (φ := .f32) .olt (FloatOps.absf (F := Ideal) (φ := .f32) a)
    (Ideal.ofBits FTy.f32 0x7F800000#32) = 1#1) : ∃ t : ℝ, a = t := by
  have h' : BitVec.ofBool (decide (max a (-a) < (⊤ : EReal))) = 1#1 := by rw [← ofBits_posInf]; exact h
  have h2 : max a (-a) < (⊤ : EReal) := by
    by_contra hn
    rw [decide_eq_false hn] at h'
    exact absurd h' (by decide)
  induction a using EReal.rec with
  | bot => simp at h2
  | top => simp at h2
  | coe t => exact ⟨t, rfl⟩

/-- An extended real that compares equal to the zero constant is zero. -/
theorem eq_zero (a : EReal) (h : FloatOps.cmpf (F := Ideal) (φ := .f32) .oeq a (Ideal.ofBits FTy.f32 0x00000000#32) = 1#1) :
    a = 0 := by
  have hz : Ideal.ofBits FTy.f32 0x00000000#32 = 0 := by simp [Ideal.ofBits, Ideal.ieee]
  have h' : BitVec.ofBool (decide (a = (0 : EReal))) = 1#1 := by rw [← hz]; exact h
  by_contra hn
  rw [decide_eq_false hn] at h'
  exact absurd h' (by decide)

variable (x : FVec Ideal S16384x128 .f32) (w : FVec Ideal S256x128 .f32) (b : FVec Ideal S256 .f32) (nz : FVec Ideal S16384x128 .f32)

theorem input (h : (fn (F := Ideal) x w b nz).1 = fun _ => 1#1) (i : Fin 16384) (k : Fin 128) : ∃ t : ℝ, x (ix2 i k) = t :=
  exists_real _ (congrFun h (ix2 i k))

theorem weights (h : (fn (F := Ideal) x w b nz).2.1 = fun _ => 1#1) (j : Fin 256) (k : Fin 128) : ∃ t : ℝ, w (ix2 j k) = t :=
  exists_real _ (congrFun h (ix2 j k))

theorem bias (h : (fn (F := Ideal) x w b nz).2.2.1 = fun _ => 1#1) (j : Fin 256) : b (ix1 j) = 0 :=
  eq_zero _ (congrFun h (ix1 j))

theorem noise (h : (fn (F := Ideal) x w b nz).2.2.2 = fun _ => 1#1) (i : Fin 16384) (k : Fin 128) : ∃ t : ℝ, nz (ix2 i k) = t :=
  exists_real _ (congrFun h (ix2 i k))

end Cert.Finite

end
-- ==== Proof.Claims.lean ====
/- The claims, one theorem each. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_unbiased
public import proofs.«01_k».proof.Proof.KernelArray
public import proofs.«01_k».proof.Proof.RefRow
public import proofs.«01_k».proof.Proof.Finite
public import Idealize.ShloMosaic.Lib.Claim
public import Idealize.ShloMosaic.Lib.Quiescent

@[expose] public section

noncomputable section

namespace Cert.Proof

open Idealize.ShloMosaic Idealize.SL.Sem

/-! ## Frames -/

/-- The kernel terminates, keeps its arguments and leaves every semaphore at zero. -/
theorem frame_p : Cert.quiescent_Kernel := fun m ρ _ => Cert.Kernel.Gen.frame m ρ

/-- So does the kernel over the extended reals, -/
theorem frame_pi : Cert.quiescent_KernelIdeal := fun m ρ _ => Cert.KernelIdeal.Gen.frame m ρ

/-- and in particular from the memories that the precondition allows. -/
theorem frame_pi_pre : Cert.quiescent_KernelIdeal_pre_finite_unbiased := fun m ρ _ => frame_pi m ρ trivial

/-- The reference terminates and keeps its arguments, by the run that computes its results; it has no semaphore, -/
theorem frame_ri : Cert.quiescent_ReferenceIdeal := fun m ρ _ =>
  θ_run_mono (Cert.ReferenceIdeal.Term.run m ρ) fun r h => ⟨fun c => (h c).2, sem_eq_zero_of_no_sems (by decide) r.2⟩

/-- and in particular it does so under the precondition. -/
theorem frame_ri_pre : Cert.quiescent_ReferenceIdeal_pre_finite_unbiased := fun m ρ _ => frame_ri m ρ trivial

/-! ## The named constants -/

/-- Each of the three named literals of the kernel is read as the real number of its name. -/
theorem preserves : Cert.preserves_Kernel_KernelIdeal :=
  ⟨IdealRules.named_const.statement Cert.KernelIdeal.κ "half_inv_log2" .f32 0x3F38AA3B#32 (((2 * (Real.log 2))⁻¹ : ℝ) : EReal) rfl,
    IdealRules.named_const.statement Cert.KernelIdeal.κ "neg_inv_log2" .f32 0xBFB8AA3B#32 ((-((Real.log 2)⁻¹) : ℝ) : EReal) rfl,
    IdealRules.named_const.statement Cert.KernelIdeal.κ "log_norm" .f32 0x42ECA272#32 _ rfl⟩

/-! ## The values -/

section Values

open Cert.KernelIdeal Cert.KernelIdeal.Gen

/-- Both of the kernel's result arrays are the reference's expressions of the kernel's arguments. -/
theorem results (m : (ℓ : Loc nD τ sig) → Buf (Elt Ideal) ℓ) (h : Cert.Pre_KernelIdeal_finite_unbiased m) (c : Dev nD) :
    (dats m 0 c).arrAt 4 cfg0.N
        = Cert.ReferenceIdeal.Term.out (m ((c.tc : Thread nD τ).loc main_arg0)) (m ((c.tc : Thread nD τ).loc main_arg1))
            (m ((c.tc : Thread nD τ).loc main_arg2)) (m ((c.tc : Thread nD τ).loc main_arg3))
      ∧ (dats m 0 c).arrAt 5 cfg0.N
        = Cert.ReferenceIdeal.Term.logq (m ((c.tc : Thread nD τ).loc main_arg0)) (m ((c.tc : Thread nD τ).loc main_arg1))
            (m ((c.tc : Thread nD τ).loc main_arg2)) (m ((c.tc : Thread nD τ).loc main_arg3)) := by
  obtain ⟨hx, hw, hb, hn⟩ := h c
  obtain ⟨X, N, W, pos, hi⟩ := Cert.Arrays.exists_inputs _ _ _ (Cert.Finite.input _ _ _ _ hx) (Cert.Finite.weights _ _ _ _ hw)
    (Cert.Finite.noise _ _ _ _ hn)
  have hz := Cert.Finite.bias _ _ _ _ hb
  exact ⟨(Cert.KernelIdeal.Array.out_eq hi).trans (Cert.ReferenceIdeal.Row.out_eq hi hz).symm,
    (Cert.KernelIdeal.Array.logq_eq hi).trans (Cert.ReferenceIdeal.Row.logq_eq hi hz).symm⟩

end Values

/-- Over the extended reals, kernel and reference end with the same two results on the same arguments. -/
theorem algebraic : Cert.algebraic_KernelIdeal_ReferenceIdeal_pre_finite_unbiased := by
  intro m g m' g' hpre hagree
  refine ⟨_, _, Cert.KernelIdeal.Value.run_blocks m g, ?_⟩
  refine θ_run_mono (Cert.ReferenceIdeal.Term.run m' g') fun r h c => ?_
  obtain ⟨⟨h0, h1⟩, hargs⟩ := h c
  obtain ⟨a0, a1, a2, a3⟩ := hagree c
  rw [a0, a1, a2, a3] at h0 h1
  exact ⟨h0.trans (results m hpre c).1.symm, h1.trans (results m hpre c).2.symm, hargs⟩

end Cert.Proof

end
-- ==== Proof.lean ====
/- The proof of the certificate's claim: the frames of the three programs, the named constants, and the equality of both of the
   kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_unbiased
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_unbiased.Gen.facts,
    frame_p, frame_pi, frame_pi_pre, frame_ri, frame_ri_pre, preserves, algebraic⟩

end Cert.Proof

end
